-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x3072x7168 : Shape := ⟨3, ![1, 3072, 7168]⟩
abbrev S1x3072x3584 : Shape := ⟨3, ![1, 3072, 3584]⟩
abbrev S3584 : Shape := ⟨1, ![3584]⟩
abbrev S7168x3584 : Shape := ⟨2, ![7168, 3584]⟩
abbrev S3072x7168 : Shape := ⟨2, ![3072, 7168]⟩
abbrev S3072x3584 : Shape := ⟨2, ![3072, 3584]⟩
abbrev S1x3584 : Shape := ⟨2, ![1, 3584]⟩
abbrev S1x7168 : Shape := ⟨2, ![1, 7168]⟩
abbrev S3072x256 : Shape := ⟨2, ![3072, 256]⟩
abbrev S256x3584 : Shape := ⟨2, ![256, 3584]⟩
abbrev S1x256 : Shape := ⟨2, ![1, 256]⟩
abbrev S256 : Shape := ⟨1, ![256]⟩
abbrev S256x1 : Shape := ⟨2, ![256, 1]⟩

abbrev nBuf : Space → Nat
  | .hbm => 10
  | .vmem => 12
  | .smem => 0
  | _ => 0

abbrev bufTy : (tb : Table) → Fin (tcTables nBuf tb) → BufTy
  | .hbm, ⟨0, _⟩ => ⟨S1x3072x7168, .bf16⟩
  | .hbm, ⟨1, _⟩ => ⟨S1x3072x3584, .fp8e5m2⟩
  | .hbm, ⟨2, _⟩ => ⟨S3584, .f32⟩
  | .hbm, ⟨3, _⟩ => ⟨S7168x3584, .f32⟩
  | .hbm, ⟨4, _⟩ => ⟨S3072x7168, .bf16⟩
  | .hbm, ⟨5, _⟩ => ⟨S3072x3584, .fp8e5m2⟩
  | .hbm, ⟨6, _⟩ => ⟨S1x3584, .f32⟩
  | .hbm, ⟨7, _⟩ => ⟨S7168x3584, .f32⟩
  | .hbm, ⟨8, _⟩ => ⟨S3072x7168, .fp8e4m3⟩
  | .hbm, ⟨9, _⟩ => ⟨S1x7168, .f32⟩
  | .local _ .vmem, ⟨0, _⟩ => ⟨S3072x256, .bf16⟩
  | .local _ .vmem, ⟨1, _⟩ => ⟨S3072x256, .bf16⟩
  | .local _ .vmem, ⟨2, _⟩ => ⟨S3072x3584, .fp8e5m2⟩
  | .local _ .vmem, ⟨3, _⟩ => ⟨S1x3584, .f32⟩
  | .local _ .vmem, ⟨4, _⟩ => ⟨S256x3584, .f32⟩
  | .local _ .vmem, ⟨5, _⟩ => ⟨S256x3584, .f32⟩
  | .local _ .vmem, ⟨6, _⟩ => ⟨S256x3584, .f32⟩
  | .local _ .vmem, ⟨7, _⟩ => ⟨S256x3584, .f32⟩
  | .local _ .vmem, ⟨8, _⟩ => ⟨S3072x256, .fp8e4m3⟩
  | .local _ .vmem, ⟨9, _⟩ => ⟨S3072x256, .fp8e4m3⟩
  | .local _ .vmem, ⟨10, _⟩ => ⟨S1x256, .f32⟩
  | .local _ .vmem, ⟨11, _⟩ => ⟨S1x256, .f32⟩
  | _, _ => ⟨S1x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![28], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3072x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3072x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x3072x7168 : Shape := ⟨3, ![1, 3072, 7168]⟩
abbrev S1x3072x3584 : Shape := ⟨3, ![1, 3072, 3584]⟩
abbrev S3584 : Shape := ⟨1, ![3584]⟩
abbrev S7168x3584 : Shape := ⟨2, ![7168, 3584]⟩
abbrev S3072x7168 : Shape := ⟨2, ![3072, 7168]⟩
abbrev S3072x3584 : Shape := ⟨2, ![3072, 3584]⟩
abbrev S1x3584 : Shape := ⟨2, ![1, 3584]⟩
abbrev S1x7168 : Shape := ⟨2, ![1, 7168]⟩
abbrev S7168 : Shape := ⟨1, ![7168]⟩
abbrev S7168x1 : Shape := ⟨2, ![7168, 1]⟩

abbrev nBuf : Space → Nat
  | .hbm => 10
  | .vmem => 7
  | .smem => 0
  | _ => 0

abbrev bufTy : (tb : Table) → Fin (tcTables nBuf tb) → BufTy
  | .hbm, ⟨0, _⟩ => ⟨S1x3072x7168, .bf16⟩
  | .hbm, ⟨1, _⟩ => ⟨S1x3072x3584, .fp8e5m2⟩
  | .hbm, ⟨2, _⟩ => ⟨S3584, .f32⟩
  | .hbm, ⟨3, _⟩ => ⟨S7168x3584, .f32⟩
  | .hbm, ⟨4, _⟩ => ⟨S3072x7168, .bf16⟩
  | .hbm, ⟨5, _⟩ => ⟨S3072x3584, .fp8e5m2⟩
  | .hbm, ⟨6, _⟩ => ⟨S1x3584, .f32⟩
  | .hbm, ⟨7, _⟩ => ⟨S7168x3584, .f32⟩
  | .hbm, ⟨8, _⟩ => ⟨S3072x7168, .fp8e4m3⟩
  | .hbm, ⟨9, _⟩ => ⟨S1x7168, .f32⟩
  | .local _ .vmem, ⟨0, _⟩ => ⟨S3072x7168, .bf16⟩
  | .local _ .vmem, ⟨1, _⟩ => ⟨S3072x3584, .fp8e5m2⟩
  | .local _ .vmem, ⟨2, _⟩ => ⟨S1x3584, .f32⟩
  | .local _ .vmem, ⟨3, _⟩ => ⟨S7168x3584, .f32⟩
  | .local _ .vmem, ⟨4, _⟩ => ⟨S7168x3584, .f32⟩
  | .local _ .vmem, ⟨5, _⟩ => ⟨S3072x7168, .fp8e4m3⟩
  | .local _ .vmem, ⟨6, _⟩ => ⟨S1x7168, .f32⟩
  | _, _ => ⟨S1x3072x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3072x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x7168 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7168 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/- THE SCALE OF ONE COLUMN, as scalars over the extended reals. Both programs turn a column's `v = amax / 448` into an
   exponent `e` and then into `2^e` and `2^(-e)`, limited to the range of float32. The kernel finds `e` by searching
   the eight bits of the exponent field and builds powers of two as bit patterns; the reference takes `⌊log₂ v⌋ + 1` and
   calls `exp2`. `kScale_eq` and `kInv_eq`: the two agree, at every extended real `v`, for every `a` which is zero only when `v` is. -/
module

public import Idealize.ShloMosaic.Lib.Pointwise
public import Idealize.ShloMosaic.Lib.ValueIdx

@[expose] public section

set_option maxRecDepth 16384

noncomputable section

namespace Cert.Scale

open Idealize.ShloMosaic

/-! ## Powers of two as bit patterns -/

/-- The float32 pattern with exponent field `b` (limited to 0..255) and no other bit set. -/
abbrev word (b : BitVec 32) : BitVec 32 :=
  IntOp.shli .vector (IntOp.minsi 255#32 (IntOp.maxsi 0#32 b)) 23#32

/-- The value of that pattern, from the exponent without its bias. -/
abbrev pow2 (e : BitVec 32) : EReal := Ideal.ofBits .f32 (word (IntOp.addi e 127#32))

/-- The value of the pattern whose exponent field is `n`: zero at 0, infinity at 255, else a power of two. -/
def P (n : Nat) : EReal :=
  if n = 255 then ⊤ else if n = 0 then 0 else (((2 : ℝ) ^ ((n : ℤ) - 127) : ℝ) : EReal)

theorem P_zero : P 0 = 0 := by simp [P]
theorem P_top : P 255 = ⊤ := by simp [P]
theorem P_mid {n : Nat} (h0 : 0 < n) (h1 : n < 255) : P n = (((2 : ℝ) ^ ((n : ℤ) - 127) : ℝ) : EReal) := by
  unfold P
  rw [if_neg (by omega), if_neg (by omega)]

/-- The fields of the pattern of exponent `n`: sign clear, exponent `n`, trailing bits zero. -/
theorem fields : ∀ n < 256, ((BitVec.ofNat 32 (n * 2 ^ 23)).extractLsb' 31 1 = 0#1)
    ∧ ((BitVec.ofNat 32 (n * 2 ^ 23)).extractLsb' 23 8).toNat = n
    ∧ ((BitVec.ofNat 32 (n * 2 ^ 23)).extractLsb' 0 23).toNat = 0 := by decide +kernel

/-- The pattern of exponent field `n` denotes `P n`. -/
theorem ofBits_exp {n : Nat} (h : n < 256) : Ideal.ofBits .f32 (BitVec.ofNat 32 (n * 2 ^ 23)) = P n := by
  obtain ⟨h1, h2, h3⟩ := fields n h
  show Ideal.ieee 8 23 _ = _
  unfold Ideal.ieee P
  simp only [Nat.reduceAdd, h1, h2, h3]
  by_cases hn : n = 255
  · simp [hn]
  · by_cases h0 : n = 0
    · simp [h0]
    · have hb : (2 : ℝ) ^ ((n : ℤ) - 127) = 8388608 * (2 : ℝ) ^ ((n : ℤ) - 127 - 23) := by
        rw [zpow_sub₀ (by norm_num : (2 : ℝ) ≠ 0) ((n : ℤ) - 127) 23]
        norm_num
        ring
      simp only [hn, h0, if_false]
      rw [hb]
      norm_num [hn]

/-- A field inside 0..255 is kept as it is. -/
theorem word_ofNat : ∀ n < 256, word (BitVec.ofNat 32 n) = BitVec.ofNat 32 (n * 2 ^ 23) := by decide +kernel

theorem ofBits_word {n : Nat} (h : n < 256) : Ideal.ofBits .f32 (word (BitVec.ofNat 32 n)) = P n := by
  rw [word_ofNat n h, ofBits_exp h]

/-! ## The kernel's search for the exponent field -/

/-- One step of the search: add `s` to the field found so far when `v` reaches the power of two of the sum. -/
def step (v : EReal) (x off s : BitVec 32) : BitVec 32 :=
  if pow2 (IntOp.addi x off) ≤ v then IntOp.addi x s else x

/-- The eight steps. -/
def field (v : EReal) : BitVec 32 :=
  step v (step v (step v (step v (step v (step v (step v (step v 0#32 1#32 128#32) 4294967233#32 64#32)
    4294967201#32 32#32) 4294967185#32 16#32) 4294967177#32 8#32) 4294967173#32 4#32) 4294967171#32 2#32) 4294967170#32 1#32

/-- The field found so far is `n`, at most `d` below the final one: `P n ≤ v < P (n + d)`, unless at the ends. -/
def Inv (v : EReal) (x : BitVec 32) (d : Nat) : Prop :=
  ∃ n : Nat, x = BitVec.ofNat 32 n ∧ n + d ≤ 256 ∧ (n = 0 ∨ P n ≤ v) ∧ (n + d = 256 ∨ v < P (n + d))

/-- A step of `s` halves the distance. -/
theorem step_inv {v : EReal} {x off : BitVec 32} {s : Nat} (hs : 0 < s) (hoff : off + 127#32 = BitVec.ofNat 32 s)
    (h : Inv v x (s + s)) : Inv v (step v x off (BitVec.ofNat 32 s)) s := by
  obtain ⟨n, rfl, hb, hl, hu⟩ := h
  have e : pow2 (IntOp.addi (BitVec.ofNat 32 n) off) = P (n + s) := by
    have : IntOp.addi (IntOp.addi (BitVec.ofNat 32 n) off) 127#32 = BitVec.ofNat 32 (n + s) := by
      show BitVec.ofNat 32 n + off + 127#32 = _
      rw [BitVec.add_assoc, hoff, BitVec.ofNat_add]
    show Ideal.ofBits .f32 (word _) = _
    rw [this, ofBits_word (by omega)]
  unfold step
  rw [e]
  by_cases hc : P (n + s) ≤ v
  · rw [if_pos hc]
    exact ⟨n + s, by rw [BitVec.ofNat_add]; rfl, by omega, .inr hc, by rw [add_assoc]; exact hu⟩
  · rw [if_neg hc]
    exact ⟨n, rfl, by omega, hl, .inr (not_le.mp hc)⟩

/-- What the search finds: the field `n` with `P n ≤ v < P (n + 1)`. -/
theorem field_spec (v : EReal) : Inv v (field v) 1 := by
  have h0 : Inv v 0#32 (128 + 128) := ⟨0, rfl, by omega, .inl rfl, .inl rfl⟩
  have h1 := step_inv (off := 1#32) (by omega) (by decide) h0
  have h2 := step_inv (s := 64) (off := 4294967233#32) (by omega) (by decide) h1
  have h3 := step_inv (s := 32) (off := 4294967201#32) (by omega) (by decide) h2
  have h4 := step_inv (s := 16) (off := 4294967185#32) (by omega) (by decide) h3
  have h5 := step_inv (s := 8) (off := 4294967177#32) (by omega) (by decide) h4
  have h6 := step_inv (s := 4) (off := 4294967173#32) (by omega) (by decide) h5
  have h7 := step_inv (s := 2) (off := 4294967171#32) (by omega) (by decide) h6
  exact step_inv (s := 1) (off := 4294967170#32) (by omega) (by decide) h7

/-- The kernel's exponent: the field less 126, or zero at the two special fields. -/
def kExp (v : EReal) : BitVec 32 :=
  if field v = 0#32 ∨ field v = 255#32 then 0#32 else IntOp.subi (field v) 126#32

/-- The kernel's scale and inverse scale. -/
def kScale (v : EReal) : EReal := pow2 (kExp v)
def kInv (v : EReal) : EReal := pow2 (IntOp.subi 0#32 (kExp v))

/-! ## The reference's exponent and scale -/

/-- The reference's exponent of `v`, zero where the column's largest magnitude `a` is zero. -/
def rExp (a v : EReal) : EReal :=
  if a = 0 then 0 else
    if P 1 ≤ v ∧ v < ⊤ then Ideal.liftRound Int.floor (Ideal.div (Ideal.log v) (Ideal.log ((2 : ℝ) : EReal))) + 1 else 0

/-- `2^e` limited to the range of float32. -/
def ldexp (e : EReal) : EReal :=
  if ((127 : ℝ) : EReal) < e then ⊤ else if e < ((-126 : ℝ) : EReal) then 0 else Ideal.exp2 e

/-- At a whole number `k`, `ldexp` is the power of two, infinity past 127 and zero below -126. -/
theorem ldexp_int (k : ℤ) : ldexp (((k : ℝ)) : EReal)
    = if 127 < k then ⊤ else if k < -126 then 0 else (((2 : ℝ) ^ k : ℝ) : EReal) := by
  unfold ldexp
  have h1 : (((127 : ℝ) : EReal) < ((k : ℝ) : EReal)) ↔ 127 < k := by
    rw [EReal.coe_lt_coe_iff]; exact_mod_cast Iff.rfl
  have h2 : (((k : ℝ) : EReal) < ((-126 : ℝ) : EReal)) ↔ k < -126 := by
    rw [EReal.coe_lt_coe_iff]; exact_mod_cast Iff.rfl
  simp only [h1, h2]
  congr 2
  show ((Real.rpow 2 (k : ℝ) : ℝ) : EReal) = _
  exact congrArg _ (Real.rpow_intCast 2 k)

/-- The kernel's power of two of the whole number `k` is the same. -/
theorem pow2_int {k : ℤ} (h0 : -300 < k) (h1 : k < 300) : pow2 (BitVec.ofInt 32 k) = ldexp (((k : ℝ)) : EReal) := by
  rw [ldexp_int]
  have key : ∀ n : ℕ, n < 600 → word (IntOp.addi (BitVec.ofInt 32 ((n : ℤ) - 300)) 127#32)
      = BitVec.ofNat 32 ((min 255 (n - 173)) * 2 ^ 23) := by decide +kernel
  have h := key (k + 300).toNat (by omega)
  have hk : (((k + 300).toNat : ℕ) : ℤ) - 300 = k := by omega
  rw [hk] at h
  show Ideal.ofBits .f32 (word _) = _
  rw [h, ofBits_exp (by omega)]
  by_cases c1 : 127 < k
  · rw [if_pos c1, show min 255 ((k + 300).toNat - 173) = 255 by omega, P_top]
  · rw [if_neg c1]
    by_cases c2 : k < -126
    · rw [if_pos c2, show min 255 ((k + 300).toNat - 173) = 0 by omega, P_zero]
    · rw [if_neg c2, P_mid (by omega) (by omega)]
      congr 2
      omega

/-! ## The two exponents agree -/

/-- `⌊log₂ r⌋ = k` for `2^k ≤ r < 2^(k+1)`. -/
theorem floor_log {r : ℝ} {k : ℤ} (h0 : (2 : ℝ) ^ k ≤ r) (h1 : r < (2 : ℝ) ^ (k + 1)) :
    Ideal.liftRound Int.floor (Ideal.div (Ideal.log (r : EReal)) (Ideal.log ((2 : ℝ) : EReal))) = ((k : ℝ) : EReal) := by
  have hp : (0 : ℝ) < r := lt_of_lt_of_le (zpow_pos (by norm_num) k) h0
  have hl2 : (0 : ℝ) < Real.log 2 := Real.log_pos (by norm_num)
  have e1 : Ideal.log (r : EReal) = ((Real.log r : ℝ) : EReal) := by
    show (if r ≤ 0 then ⊥ else ((Real.log r : ℝ) : EReal)) = _
    rw [if_neg (not_le.mpr hp)]
  have e2 : Ideal.log ((2 : ℝ) : EReal) = ((Real.log 2 : ℝ) : EReal) := by
    show (if (2 : ℝ) ≤ 0 then ⊥ else ((Real.log 2 : ℝ) : EReal)) = _
    rw [if_neg (by norm_num)]
  have e3 : Ideal.div ((Real.log r : ℝ) : EReal) ((Real.log 2 : ℝ) : EReal) = ((Real.log r / Real.log 2 : ℝ) : EReal) := by
    unfold Ideal.div
    rw [if_neg (by rw [EReal.coe_eq_zero]; exact hl2.ne'), ← EReal.coe_inv, ← EReal.coe_mul, div_eq_mul_inv]
  rw [e1, e2, e3]
  show ((⌊Real.log r / Real.log 2⌋ : ℝ) : EReal) = _
  have hf : ⌊Real.log r / Real.log 2⌋ = k := by
    rw [Int.floor_eq_iff]
    constructor
    · rw [le_div_iff₀ hl2, ← Real.log_zpow]
      exact Real.log_le_log (zpow_pos (by norm_num) k) h0
    · rw [div_lt_iff₀ hl2]
      have := Real.log_lt_log hp h1
      rw [Real.log_zpow] at this
      push_cast at this
      exact this
  rw [hf]

/-- Both exponents are one whole number, or both lie past the top of the range (where `2^e` is infinite and `2^(-e)`
    zero either way). -/
theorem exps (a v : EReal) (ha : a = 0 → v = 0) :
    ∃ k j : ℤ, kExp v = BitVec.ofInt 32 k ∧ rExp a v = ((j : ℝ) : EReal) ∧ -200 < k ∧ k < 200
      ∧ (k = j ∨ (127 < k ∧ 127 < j)) := by
  obtain ⟨n, hx, hb, hl, hu⟩ := field_spec v
  have hz : rExp a v = 0 ∨ (P 1 ≤ v ∧ v < ⊤ ∧ rExp a v
      = Ideal.liftRound Int.floor (Ideal.div (Ideal.log v) (Ideal.log ((2 : ℝ) : EReal))) + 1) := by
    unfold rExp
    split
    · exact .inl rfl
    · split
      · rename_i h; exact .inr ⟨h.1, h.2, rfl⟩
      · exact .inl rfl
  by_cases h0 : n = 0
  · -- below the least normal
    subst h0
    refine ⟨0, 0, by unfold kExp; rw [hx]; rfl, ?_, by omega, by omega, .inl rfl⟩
    rcases hz with h | ⟨h, _, _⟩
    · rw [h]; simp
    · exact absurd (hu.resolve_left (by omega)) (not_lt.mpr h)
  by_cases h255 : n = 255
  · -- infinity
    subst h255
    have hv : v = ⊤ := top_le_iff.mp (P_top ▸ hl.resolve_left (by omega))
    refine ⟨0, 0, by unfold kExp; rw [hx]; rfl, ?_, by omega, by omega, .inl rfl⟩
    rcases hz with h | ⟨_, h, _⟩
    · rw [h]; simp
    · exact absurd hv h.ne
  -- a normal number: `v` is real, `2^(n-127) ≤ v`
  have hlo := hl.resolve_left h0
  have hhi := hu.resolve_left (by omega)
  have hk : kExp v = BitVec.ofInt 32 ((n : ℤ) - 126) := by
    have key : ∀ n < 255, n ≠ 0 → (if BitVec.ofNat 32 n = 0#32 ∨ BitVec.ofNat 32 n = 255#32 then 0#32
        else IntOp.subi (BitVec.ofNat 32 n) 126#32) = BitVec.ofInt 32 ((n : ℤ) - 126) := by decide +kernel
    unfold kExp
    rw [hx]
    exact key n (by omega) h0
  rw [P_mid (by omega) (by omega)] at hlo
  obtain ⟨r, rfl⟩ : ∃ r : ℝ, v = (r : EReal) := by
    have hbot : v ≠ ⊥ := fun h => by rw [h] at hlo; exact absurd hlo (by simp)
    exact ⟨v.toReal, (EReal.coe_toReal hhi.ne_top hbot).symm⟩
  have hlo' : (2 : ℝ) ^ ((n : ℤ) - 127) ≤ r := EReal.coe_le_coe_iff.mp hlo
  have hpos : (0 : ℝ) < r := lt_of_lt_of_le (zpow_pos (by norm_num) _) hlo'
  have hne : a ≠ 0 := fun h => hpos.ne' (by simpa using ha h)
  have hone : P 1 ≤ (r : EReal) := by
    rw [P_mid (by omega) (by omega), EReal.coe_le_coe_iff]
    exact le_trans (zpow_le_zpow_right₀ (by norm_num) (by omega)) hlo'
  have hr : rExp a (r : EReal)
      = Ideal.liftRound Int.floor (Ideal.div (Ideal.log (r : EReal)) (Ideal.log ((2 : ℝ) : EReal))) + 1 := by
    unfold rExp
    rw [if_neg hne, if_pos ⟨hone, EReal.coe_lt_top r⟩]
  -- the whole number `k` with `2^k ≤ r < 2^(k+1)`
  obtain ⟨k, hk0, hk1⟩ := exists_mem_Ico_zpow hpos (by norm_num : (1 : ℝ) < 2)
  rw [floor_log hk0 hk1] at hr
  have hge : (n : ℤ) - 127 ≤ k := by
    have := (zpow_lt_zpow_iff_right₀ (by norm_num : (1 : ℝ) < 2)).mp (lt_of_le_of_lt hlo' hk1)
    omega
  refine ⟨(n : ℤ) - 126, k + 1, hk, by rw [hr]; push_cast; rfl, by omega, by omega, ?_⟩
  by_cases h254 : n = 254
  · exact .inr ⟨by omega, by omega⟩
  · left
    rw [P_mid (by omega) (by omega), EReal.coe_lt_coe_iff] at hhi
    have := (zpow_lt_zpow_iff_right₀ (by norm_num : (1 : ℝ) < 2)).mp (lt_of_le_of_lt hk0 hhi)
    push_cast at this
    omega

/-- THE SCALES AGREE. -/
theorem kScale_eq (a v : EReal) (ha : a = 0 → v = 0) : kScale v = ldexp (rExp a v) := by
  obtain ⟨k, j, hk, hj, h0, h1, h⟩ := exps a v ha
  unfold kScale
  rw [hk, hj, pow2_int (by omega) (by omega), ldexp_int, ldexp_int]
  rcases h with rfl | ⟨a1, a2⟩
  · rfl
  · rw [if_pos a1, if_pos a2]

/-- THE INVERSE SCALES AGREE. -/
theorem kInv_eq (a v : EReal) (ha : a = 0 → v = 0) : kInv v = ldexp (0 - rExp a v) := by
  obtain ⟨k, j, hk, hj, h0, h1, h⟩ := exps a v ha
  unfold kInv
  have e : IntOp.subi 0#32 (BitVec.ofInt 32 k) = BitVec.ofInt 32 (-k) := by
    show 0#32 - BitVec.ofInt 32 k = _
    rw [BitVec.ofInt_neg, BitVec.zero_sub]
  have e' : (0 : EReal) - ((j : ℝ) : EReal) = (((-j : ℤ) : ℝ) : EReal) := by
    rw [zero_sub, ← EReal.coe_neg]; push_cast; rfl
  rw [hk, hj, e, e', pow2_int (by omega) (by omega), ldexp_int, ldexp_int]
  rcases h with rfl | ⟨a1, a2⟩
  · rfl
  · rw [if_neg (by omega), if_pos (by omega), if_neg (by omega), if_pos (by omega)]

end Cert.Scale

end
-- ==== Proof.Spec.lean ====
/- WHAT BOTH PROGRAMS COMPUTE, as functions of the four arguments over the extended reals: `x` (tokens by features, here
   of `n` features: all of them, or one block of them), `dy` (tokens by outputs), the row `ds` and the gradient `mg`.
   Per feature, the largest magnitude over the tokens gives a power-of-two scale; `codes` is `x` over the scale, limited
   to ±448; `scales` is the row of scales; `grad` is `mg` plus the product of `codes` transposed and `dy`, scaled. -/
module

public import proofs.«01_k».proof.Proof.Scale

@[expose] public section

noncomputable section

namespace Cert.Spec

open Idealize.ShloMosaic

/-- A matrix of extended reals. -/
abbrev Mat (a b : Nat) : Type := (⟨2, ![a, b]⟩ : Shape).Idx → EReal

/-- The largest magnitude of a column. -/
def amax (col : Fin 3072 → EReal) : EReal := (Finset.univ : Finset (Fin 3072)).fold max ⊥ fun k => max (col k) (-(col k))

/-- It over 448, by the float32 constant nearest to 1/448. -/
def quot (col : Fin 3072 → EReal) : EReal := amax col * Ideal.ofBits .f32 0x3B124925#32

theorem quot_zero (col : Fin 3072 → EReal) (h : amax col = 0) : quot col = 0 := by rw [quot, h, zero_mul]

/-- The column's scale. -/
def scale (col : Fin 3072 → EReal) : EReal := Scale.ldexp (Scale.rExp (amax col) (quot col))

/-- The power of two of the opposite exponent. -/
def inv (col : Fin 3072 → EReal) : EReal := Scale.ldexp (0 - Scale.rExp (amax col) (quot col))

/-- The column's scale as the kernel finds it. -/
theorem scale_kernel (col : Fin 3072 → EReal) : Scale.kScale (quot col) = scale col :=
  Scale.kScale_eq _ _ (quot_zero col)

/-- The inverse scale as the kernel finds it. -/
theorem inv_kernel (col : Fin 3072 → EReal) : Scale.kInv (quot col) = inv col :=
  Scale.kInv_eq _ _ (quot_zero col)

/-- Column `j` of a matrix of 3072 rows. -/
def col {n : Nat} (X : Mat 3072 n) (j : Fin n) : Fin 3072 → EReal := fun k => X (ix2 k j)

/-- The codes. -/
def codes {n : Nat} (X : Mat 3072 n) : Mat 3072 n := fun i =>
  min (Ideal.ofBits .f32 0x43E00000#32) (max (Ideal.ofBits .f32 0xC3E00000#32) (X i * inv (col X (i 1))))

/-- The row of scales. -/
def scales {n : Nat} (X : Mat 3072 n) : Mat 1 n := fun i => scale (col X (i 1))

/-- The updated gradient. -/
def grad {n : Nat} (X : Mat 3072 n) (DY : Mat 3072 3584) (DS : Mat 1 3584) (MG : Mat n 3584) : Mat n 3584 := fun i =>
  MG i + (∑ k : Fin 3072, codes X (ix2 k (i 0)) * DY (ix2 k (i 1))) * (scales X (ix2 0 (i 0)) * DS (ix2 0 (i 1)))

end Cert.Spec

end
-- ==== Proof.ColMax.lean ====
/- THE LARGEST ELEMENT OF EACH COLUMN, read at an index. Both programs reduce a matrix along its rows by maximum and keep
   the result as one row; `colMax` reads that row at any size, so that no size is ever computed with. -/
module

public import Idealize.ShloMosaic.Lib.Pointwise
public import Idealize.ShloMosaic.Lib.ValueIdx
public import Idealize.ShloMosaic.Lib.Pipeline.Value

@[expose] public section

noncomputable section

namespace Cert.ColMax

open Idealize.ShloMosaic

/-- The row of column maxima at column `j`: the maximum over the rows `k` of the matrix at `(k, j)`. -/
theorem colMax {n0 n1 : Nat} {φ : FTy} (v : FVec Ideal ⟨2, ![n0, n1]⟩ φ) (acc : BitVec φ.bits)
    (h : (⟨2, ![n0, n1]⟩ : Shape).Reduces [0] ⟨1, ![n1]⟩) (hφ : FKind.Formats φ) (hacc : acc = FKind.maximumf.neutral φ hφ)
    (hc : (⟨1, ![n1]⟩ : Shape).ShapeCasts ⟨2, ![1, n1]⟩) (u : Fin 1) (j : Fin n1) :
    shapeCast (⟨2, ![1, n1]⟩ : Shape) (multiReduction .maximumf [0] ⟨1, ![n1]⟩ v acc h hφ hacc) hc (ix2 u j)
      = (Finset.univ : Finset (Fin n0)).fold max (Ideal.ofBits φ acc) fun k => v (ix2 k j) := by
  rw [shapeCast_apply _ hc (ix2 u j) (ix1 j) (by
    rw [Shape.rowMajor_val_one, Shape.rowMajor_val_two]
    show j.val = u.val * n1 + j.val
    have := u.isLt
    have h0 : u.val = 0 := by omega
    rw [h0]; omega)]
  rw [multiReduction_maximumf_eq_fold]
  exact h.fold_fiber_r2_a0 (ix1 j) max _ v

end Cert.ColMax

end
-- ==== Proof.KernelBlock.lean ====
/- WHAT ONE BLOCK OF THE KERNEL COMPUTES. Each payload of the kernel's body is read at an index; together they are the
   functions of `Spec` at a block of 256 features. -/
module

public import proofs.«01_k».proof.Proof.Spec
public import proofs.«01_k».proof.Proof.ColMax
public import proofs.«01_k».proof.Proof.Gen.KernelIdeal.Frame

@[expose] public section

set_option maxRecDepth 16384

noncomputable section

namespace Cert.KernelIdeal.Blk

open Cert.KernelIdeal Cert.KernelIdeal.Gen Idealize.ShloMosaic Idealize.ShloMosaic.TcCoe Idealize.SL.Sem

/-! ## The exponent -/

/-- The cast of `x` to its own shape changes nothing. -/
theorem pay3_eq (x : Vec Ideal S3072x256 .bf16) : k0_pay3 (F := Ideal) x = x := shapeCast_self _ _

/-- The column's largest magnitude over 448. -/
theorem pay4_apply (x : Vec Ideal S3072x256 .bf16) (u : Fin 1) (j : Fin 256) :
    k0_pay4 (F := Ideal) x (ix2 u j) = Spec.quot (Spec.col x j) := by
  have hb : Ideal.ofBits .bf16 0xFF80#16 = ⊥ := by simp [Ideal.ofBits, Ideal.ieee]
  have h := ColMax.colMax (φ := .bf16) (absf x) 0xFF80#16 reduces_S3072x256_S256 (.inr rfl) rfl
    shapeCasts_S256_S1x256 u j
  unfold k0_pay4
  rw [pay3_eq, mulf_apply, extf_apply, ValueIdx.broadcast_apply, Ideal.extf_def, Ideal.mulf_def]
  unfold Spec.quot
  refine congrArg (fun z : EReal => z * Ideal.ofBits .f32 0x3B124925#32) (h.trans ?_)
  rw [hb]
  rfl

/-- One step of the search, on a whole row. -/
def stepV (v : FVec Ideal S1x256 .f32) (x : IVec S1x256 32) (off s : BitVec 32) : IVec S1x256 32 :=
  select (cmpf .oge v (bitcastToFloat .f32 (shli (minsi (broadcast S1x256 255#32) (maxsi (broadcast S1x256 0#32)
    (addi (addi x (broadcast S1x256 off)) (broadcast S1x256 127#32)))) (broadcast S1x256 23#32))))
    (addi x (broadcast S1x256 s)) x

/-- A selection by a decided condition. -/
theorem select_ofBool {α : Type} (p : Prop) [Decidable p] (a b : α) :
    Scalar.select (BitVec.ofBool (decide p)) a b = if p then a else b := by
  by_cases h : p <;> simp [h, Scalar.select]

theorem stepV_apply (v : FVec Ideal S1x256 .f32) (x : IVec S1x256 32) (off s : BitVec 32) (j : S1x256.Idx) :
    stepV v x off s j = Scale.step (v j) (x j) off s :=
  select_ofBool (Scale.pow2 (IntOp.addi (x j) off) ≤ v j) (IntOp.addi (x j) s) (x j)

/-- The eight steps on a row. -/
def fieldV (v : FVec Ideal S1x256 .f32) : IVec S1x256 32 :=
  stepV v (stepV v (stepV v (stepV v (stepV v (stepV v (stepV v (stepV v (broadcast S1x256 0#32) 1#32 128#32)
    4294967233#32 64#32) 4294967201#32 32#32) 4294967185#32 16#32) 4294967177#32 8#32) 4294967173#32 4#32)
    4294967171#32 2#32) 4294967170#32 1#32

theorem fieldV_apply (v : FVec Ideal S1x256 .f32) (j : S1x256.Idx) : fieldV v j = Scale.field (v j) := by
  unfold fieldV Scale.field
  simp only [stepV_apply]
  rfl

theorem pay5_eq (x : Vec Ideal S3072x256 .bf16) : k0_pay5 (F := Ideal) x
    = stepV (k0_pay4 x) (stepV (k0_pay4 x) (broadcast S1x256 0#32) 1#32 128#32) 4294967233#32 64#32 := rfl

theorem pay6_eq (x : Vec Ideal S3072x256 .bf16) : k0_pay6 (F := Ideal) x
    = addi (k0_pay5 x) (broadcast S1x256 4294967201#32) := rfl

theorem pay7_eq (v : FVec Ideal S1x256 .f32) (p : IVec S1x256 32) :
    k0_pay7 v p (addi p (broadcast S1x256 4294967201#32))
      = stepV v (stepV v (stepV v p 4294967201#32 32#32) 4294967185#32 16#32) 4294967177#32 8#32 := rfl

theorem pay8_eq (v : FVec Ideal S1x256 .f32) (p : IVec S1x256 32) :
    k0_pay8 v p = stepV v (stepV v p 4294967173#32 4#32) 4294967171#32 2#32 := rfl

theorem pay9_eq (v : FVec Ideal S1x256 .f32) (p : IVec S1x256 32) :
    select (k0_pay9 v p) (addi (k0_pay8 v p) (broadcast S1x256 1#32)) (k0_pay8 v p)
      = stepV v (k0_pay8 v p) 4294967170#32 1#32 := rfl

section
variable (x0 : Vec Ideal S3072x256 .bf16) (x1 : Vec Ideal S3072x3584 .fp8e5m2) (x2 : Vec Ideal S1x3584 .f32)
  (x3 : Vec Ideal S256x3584 .f32)

theorem hz : (![0, 0] : Fin 2 → Nat) = fun _ => 0 := funext fun a => by fin_cases a <;> rfl

/-- A load of a whole buffer is the buffer. -/
theorem ld0 : View.ld x0 r0_0 = x0 := View.ld_unit_zero hz _ x0
theorem ld1 : View.ld x1 r0_2 = x1 := View.ld_unit_zero hz _ x1
theorem ld2 : View.ld x2 r0_4 = x2 := View.ld_unit_zero hz _ x2
theorem ld3 : View.ld x3 r0_3 = x3 := View.ld_unit_zero hz _ x3

/-- The last step of the search, as the body spells it. -/
theorem field_eq : select (k0_pay16 x0 x1 x2 x3) (addi (k0_pay15 x0 x1 x2 x3) (broadcast S1x256 1#32)) (k0_pay15 x0 x1 x2 x3)
    = fieldV (k0_pay4 (F := Ideal) x0) := by
  unfold k0_pay16 k0_pay15
  rw [pay9_eq, pay8_eq]
  unfold k0_pay14 k0_pay13
  rw [ld0, pay6_eq, pay7_eq, pay5_eq]
  rfl

/-- The exponent row: the field less 126, or zero at the special fields. -/
theorem pay10_apply (u : Fin 1) (j : Fin 256) : k0_pay10 (k0_pay15 x0 x1 x2 x3) (k0_pay16 x0 x1 x2 x3) 1#32 (ix2 u j)
    = Scale.kExp (Spec.quot (Spec.col x0 j)) := by
  have key : ∀ b : BitVec 32, Scalar.select (IntOp.ori (IntOp.cmpi .eq b 0#32) (IntOp.cmpi .eq b 255#32)) 0#32 (IntOp.subi b 126#32)
      = if b = 0#32 ∨ b = 255#32 then 0#32 else IntOp.subi b 126#32 := by
    intro b
    by_cases h0 : b = 0#32
    · subst h0; rfl
    · by_cases h1 : b = 255#32
      · subst h1; rfl
      · rw [if_neg (by simp [h0, h1])]
        have e0 : (b == 0#32) = false := by simpa using h0
        have e1 : (b == 255#32) = false := by simpa using h1
        show Scalar.select (BitVec.ofBool (b == 0#32) ||| BitVec.ofBool (b == 255#32)) _ _ = _
        rw [e0, e1]
        rfl
  have hf := congrFun (field_eq x0 x1 x2 x3) (ix2 u j)
  rw [fieldV_apply, pay4_apply] at hf
  unfold Scale.kExp
  rw [← key, ← hf]
  rfl

/-- The scale row. -/
theorem pay11_apply (u : Fin 1) (j : Fin 256) :
    k0_pay11 (F := Ideal) (k0_pay15 x0 x1 x2 x3) (k0_pay16 x0 x1 x2 x3) 1#32 (ix2 u j) = Spec.scale (Spec.col x0 j) := by
  rw [← Spec.scale_kernel]
  unfold Scale.kScale
  rw [← pay10_apply x0 x1 x2 x3 u j]
  rfl

/-- The codes. -/
theorem pay17_apply (r : Fin 3072) (j : Fin 256) : k0_pay17 (F := Ideal) x0 x1 x2 x3 (ix2 r j) = Spec.codes x0 (ix2 r j) := by
  have h : ∀ (a : IVec S1x256 32) (b : IVec S1x256 1), k0_pay12 (F := Ideal) x0 a b 1#32 (ix2 r j)
      = min (Ideal.ofBits .f32 0x43E00000#32) (max (Ideal.ofBits .f32 0xC3E00000#32)
          (x0 (ix2 r j) * Scale.pow2 (IntOp.subi 0#32 (k0_pay10 a b 1#32 (ix2 0 j))))) := by
    intro a b
    pointwise [k0_pay12]
  unfold k0_pay17
  rw [ld0, pay3_eq, h, pay10_apply]
  show min _ (max _ (_ * Scale.kInv (Spec.quot (Spec.col x0 j)))) = _
  rw [Spec.inv_kernel]
  rfl

/-- The updated gradient. -/
theorem pay2_apply (s : FVec Ideal S1x256 .f32) (cd : FVec Ideal S3072x256 .bf16) (r : Fin 256) (j : Fin 3584) :
    k0_pay2 (F := Ideal) s cd x1 x3 x2 (ix2 r j)
      = x3 (ix2 r j) + (∑ k, cd (ix2 k r) * x1 (ix2 k j)) * (s (ix2 0 r) * x2 (ix2 0 j)) := by
  pointwise [k0_pay2, k0_pay1]

/-! ## The three blocks the body stores -/

theorem out4_eq : out0_4 x0 x1 x2 x3 = Spec.grad x0 x1 x2 x3 := by
  unfold out0_4 r0_3
  rw [View.canon_unit_zero hz, ld1, ld2]
  have e : View.ld x3 r0_3 = x3 := ld3 x3
  unfold r0_3 at e
  rw [e]
  funext i
  idx_vars i
  rw [pay2_apply, pay11_apply]
  simp only [pay17_apply]
  rfl

theorem out5_eq : out0_5 x0 x1 x2 x3 = Spec.codes x0 := by
  unfold out0_5 r0_0
  rw [View.canon_unit_zero hz]
  funext i
  idx_vars i
  exact pay17_apply x0 x1 x2 x3 _ _

theorem out6_eq : out0_6 x0 x1 x2 x3 = Spec.scales x0 := by
  unfold out0_6 r0_1
  rw [View.canon_unit_zero hz]
  funext i
  idx_vars i
  exact pay11_apply x0 x1 x2 x3 _ _
end

end Cert.KernelIdeal.Blk

end
-- ==== Proof.Blocks.lean ====
/- A block of columns: what the three functions of `Spec.lean` are on some of the features of `x` alone. Every feature is
   scaled by itself, so each is the same function of the whole array, read at that feature. -/
module

public import proofs.«01_k».proof.Proof.Spec

@[expose] public section

noncomputable section

namespace Cert.Spec

open Idealize.ShloMosaic

section
variable {n n' : Nat} (X : Mat 3072 n) (Xb : Mat 3072 n') (f : Fin n' → Fin n)
  (hX : ∀ r j, Xb (ix2 r j) = X (ix2 r (f j)))
include hX

/-- A column of the block is a column of the array. -/
theorem col_block (j : Fin n') : col Xb j = col X (f j) := funext fun k => hX k j

/-- The codes of the block are the block of the codes. -/
theorem codes_block (r : Fin 3072) (j : Fin n') : codes Xb (ix2 r j) = codes X (ix2 r (f j)) := by
  show min _ (max _ (Xb (ix2 r j) * inv (col Xb j))) = min _ (max _ (X (ix2 r (f j)) * inv (col X (f j))))
  rw [hX, col_block X Xb f hX]

/-- The scales of the block are the block of the scales. -/
theorem scales_block (u : Fin 1) (j : Fin n') : scales Xb (ix2 u j) = scales X (ix2 u (f j)) := by
  show scale (col Xb j) = scale (col X (f j))
  rw [col_block X Xb f hX]

/-- The gradient's rows for the block are rows of the gradient. -/
theorem grad_block (DY : Mat 3072 3584) (DS : Mat 1 3584) (MG : Mat n 3584) (MGb : Mat n' 3584)
    (hM : ∀ r j, MGb (ix2 r j) = MG (ix2 (f r) j)) (r : Fin n') (j : Fin 3584) :
    grad Xb DY DS MGb (ix2 r j) = grad X DY DS MG (ix2 (f r) j) := by
  show MGb (ix2 r j) + (∑ k : Fin 3072, codes Xb (ix2 k r) * DY (ix2 k j)) * (scales Xb (ix2 0 r) * DS (ix2 0 j))
    = MG (ix2 (f r) j) + (∑ k : Fin 3072, codes X (ix2 k (f r)) * DY (ix2 k j)) * (scales X (ix2 0 (f r)) * DS (ix2 0 j))
  simp only [codes_block X Xb f hX, scales_block X Xb f hX, hM]
end

end Cert.Spec

end
-- ==== Proof.KernelRun.lean ====
/- The kernel's three result arrays: the grid point `t` takes the features `256 t … 256 t + 255`, what it writes back is
   that block of `Spec.grad`, `Spec.codes` and `Spec.scales` of the whole arrays, and the 28 blocks cover the arrays. -/
module

public import proofs.«01_k».proof.Proof.KernelBlock
public import proofs.«01_k».proof.Proof.Blocks
public import proofs.«01_k».proof.Proof.Gen.KernelIdeal.Value
public import Idealize.ShloMosaic.Lib.Pipeline.ValueKit
public import Idealize.ShloMosaic.Lib.Claim

@[expose] public section

set_option maxRecDepth 16384

noncomputable section

namespace Cert.KernelIdeal.RefValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments as matrices -/

/-- `x`, one token a row. -/
def argX (c : Dev nD) : Spec.Mat 3072 7168 :=
  shapeCast S3072x7168 (m ((c : Thread nD τ).loc main_arg0)) shapeCasts_S1x3072x7168_S3072x7168
/-- The codes of `dy`, one token a row. -/
def argDY (c : Dev nD) : Spec.Mat 3072 3584 :=
  shapeCast S3072x3584 (m ((c : Thread nD τ).loc main_arg1)) shapeCasts_S1x3072x3584_S3072x3584
/-- The scales of `dy`, as a row. -/
def argDS (c : Dev nD) : Spec.Mat 1 3584 :=
  shapeCast S1x3584 (m ((c : Thread nD τ).loc main_arg2)) shapeCasts_S3584_S1x3584
/-- The gradient before. -/
def argMG (c : Dev nD) : Spec.Mat 7168 3584 := m ((c : Thread nD τ).loc main_arg3)

theorem V_x (c : Dev nD) : V m c main_v0 = argX m c := by entry_read; rfl
theorem V_dy (c : Dev nD) : V m c main_v1 = argDY m c := by entry_read; rfl
theorem V_ds (c : Dev nD) : V m c main_v2 = argDS m c := by entry_read; rfl
theorem V_mg (c : Dev nD) : V m c main_arg3 = argMG m c := V_main_arg3 m c

/-! ## Where the blocks lie -/

/-- Each window's block at every grid point. -/
theorem idx : ∀ t : Fin cfg0.N, win0_0.index t = ![0, t.val] ∧ win0_1.index t = ![0, 0] ∧ win0_2.index t = ![0, 0]
    ∧ win0_3.index t = ![t.val, 0] ∧ win0_4.index t = ![t.val, 0] ∧ win0_5.index t = ![0, t.val]
    ∧ win0_6.index t = ![0, t.val] :=
  (by decide +kernel : ∀ t : Fin grid0.N, win0_0.index t = ![0, t.val] ∧ win0_1.index t = ![0, 0] ∧ win0_2.index t = ![0, 0]
    ∧ win0_3.index t = ![t.val, 0] ∧ win0_4.index t = ![t.val, 0] ∧ win0_5.index t = ![0, t.val]
    ∧ win0_6.index t = ![0, t.val])

theorem lt28 (t : Fin cfg0.N) : t.val < 28 := lt_of_lt_of_eq t.isLt N_0

/-- Feature `j` of block `t`. -/
def feat (t : Fin cfg0.N) (j : Fin 256) : Fin 7168 := ⟨t.val * 256 + j.val, by have := lt28 t; omega⟩

theorem iblk0 (c : Dev nD) (t : Fin cfg0.N) (r : Fin 3072) (j : Fin 256) :
    iblk m c 0 t (ix2 r j) = argX m c (ix2 r (feat t j)) := by
  rw [← V_x]
  blk_ext [iblk, idx t, feat]

theorem iblk1 (c : Dev nD) (t : Fin cfg0.N) : iblk m c 1 t = argDY m c := by
  rw [← V_dy]
  funext i
  blk_ext [iblk, idx t]

theorem iblk2 (c : Dev nD) (t : Fin cfg0.N) : iblk m c 2 t = argDS m c := by
  rw [← V_ds]
  funext i
  blk_ext [iblk, idx t]

theorem iblk3 (c : Dev nD) (t : Fin cfg0.N) (r : Fin 256) (j : Fin 3584) :
    iblk m c 3 t (ix2 r j) = argMG m c (ix2 (feat t r) j) := by
  rw [← V_mg]
  blk_ext [iblk, idx t, feat]

/-! ## What is written back -/

/-- The updated gradient of the whole arrays. -/
def grad (c : Dev nD) : Spec.Mat 7168 3584 := Spec.grad (argX m c) (argDY m c) (argDS m c) (argMG m c)
/-- The codes of the whole array. -/
def codes (c : Dev nD) : Spec.Mat 3072 7168 := Spec.codes (argX m c)
/-- The scales of the whole array. -/
def scales (c : Dev nD) : Spec.Mat 1 7168 := Spec.scales (argX m c)

/-- Point `t` writes back its rows of the gradient, -/
theorem flushed4_eq (c : Dev nD) (t : Fin cfg0.N) :
    (dats m 0 c).flushed 4 t = (win0_4.blk t).view.read (Elt Ideal) (grad m c) := by
  rw [Value.flushed4, Blk.out4_eq, iblk1, iblk2]
  funext i
  idx_vars i
  refine (Spec.grad_block (argX m c) (iblk m c 0 t) (feat t) (iblk0 m c t) (argDY m c) (argDS m c) (argMG m c)
    (iblk m c 3 t) (iblk3 m c t) _ _).trans ?_
  show grad m c _ = _
  blk_ext [idx t, feat]

/-- its columns of the codes, -/
theorem flushed5_eq (c : Dev nD) (t : Fin cfg0.N) :
    (dats m 0 c).flushed 5 t = (win0_5.blk t).view.read (Elt Ideal) (codes m c) := by
  rw [Value.flushed5, Blk.out5_eq]
  funext i
  idx_vars i
  refine (Spec.codes_block (argX m c) (iblk m c 0 t) (feat t) (iblk0 m c t) _ _).trans ?_
  show codes m c _ = _
  blk_ext [idx t, feat]

/-- and its part of the row of scales. -/
theorem flushed6_eq (c : Dev nD) (t : Fin cfg0.N) :
    (dats m 0 c).flushed 6 t = (win0_6.blk t).view.read (Elt Ideal) (scales m c) := by
  rw [Value.flushed6, Blk.out6_eq]
  funext i
  idx_vars i
  refine (Spec.scales_block (argX m c) (iblk m c 0 t) (feat t) (iblk0 m c t) _ _).trans ?_
  show scales m c _ = _
  blk_ext [idx t, feat]

/-! ## The blocks cover the arrays -/

theorem place4 : ∀ t : Fin cfg0.N, win0_4.index t 0 * win0_4.size 0 = t.val * 256 ∧ win0_4.xsize (grid0.coords t) 0 = 256
    ∧ win0_4.index t 1 * win0_4.size 1 = 0 ∧ win0_4.xsize (grid0.coords t) 1 = 3584 :=
  (by decide +kernel : ∀ t : Fin grid0.N, win0_4.index t 0 * win0_4.size 0 = t.val * 256 ∧ win0_4.xsize (grid0.coords t) 0 = 256
    ∧ win0_4.index t 1 * win0_4.size 1 = 0 ∧ win0_4.xsize (grid0.coords t) 1 = 3584)

theorem mem_blk4 (t : Fin cfg0.N) (i : S7168x3584.Idx) (h : t.val * 256 ≤ (i 0 : Nat) ∧ (i 0 : Nat) < t.val * 256 + 256) :
    i ∈ ((cfg0.win 4).blk t).view.set := by
  show i ∈ ((View.whole main_v3_0).slice (win0_4.rect t)).set
  rw [View.set_slice_whole, Rect.mem_set_unit]
  have ho : (i 1 : Nat) < 3584 := (i 1).isLt
  obtain ⟨e1, e2, e3, e4⟩ := place4 t
  intro a
  match a with
  | ⟨0, _⟩ =>
    show win0_4.index t 0 * win0_4.size 0 ≤ (i 0 : Nat) ∧ (i 0 : Nat) < win0_4.index t 0 * win0_4.size 0 + win0_4.xsize (grid0.coords t) 0
    rw [e1, e2]; exact h
  | ⟨1, _⟩ =>
    show win0_4.index t 1 * win0_4.size 1 ≤ (i 1 : Nat) ∧ (i 1 : Nat) < win0_4.index t 1 * win0_4.size 1 + win0_4.xsize (grid0.coords t) 1
    rw [e3, e4]; omega

theorem cover4 (i : S7168x3584.Idx) : ∃ t : Fin cfg0.N, (cfg0.win 4).flush t = true ∧ i ∈ ((cfg0.win 4).blk t).view.set := by
  have h0 : (i 0 : Nat) < 7168 := (i 0).isLt
  refine ⟨⟨(i 0 : Nat) / 256, by show _ < grid0.N; rw [N_0]; omega⟩, flush0_4 _, mem_blk4 _ i ?_⟩
  dsimp only
  omega

theorem place5 : ∀ t : Fin cfg0.N, win0_5.index t 1 * win0_5.size 1 = t.val * 256 ∧ win0_5.xsize (grid0.coords t) 1 = 256
    ∧ win0_5.index t 0 * win0_5.size 0 = 0 ∧ win0_5.xsize (grid0.coords t) 0 = 3072 :=
  (by decide +kernel : ∀ t : Fin grid0.N, win0_5.index t 1 * win0_5.size 1 = t.val * 256 ∧ win0_5.xsize (grid0.coords t) 1 = 256
    ∧ win0_5.index t 0 * win0_5.size 0 = 0 ∧ win0_5.xsize (grid0.coords t) 0 = 3072)

theorem mem_blk5 (t : Fin cfg0.N) (i : S3072x7168.Idx) (h : t.val * 256 ≤ (i 1 : Nat) ∧ (i 1 : Nat) < t.val * 256 + 256) :
    i ∈ ((cfg0.win 5).blk t).view.set := by
  show i ∈ ((View.whole main_v3_1).slice (win0_5.rect t)).set
  rw [View.set_slice_whole, Rect.mem_set_unit]
  have ho : (i 0 : Nat) < 3072 := (i 0).isLt
  obtain ⟨e1, e2, e3, e4⟩ := place5 t
  intro a
  match a with
  | ⟨0, _⟩ =>
    show win0_5.index t 0 * win0_5.size 0 ≤ (i 0 : Nat) ∧ (i 0 : Nat) < win0_5.index t 0 * win0_5.size 0 + win0_5.xsize (grid0.coords t) 0
    rw [e3, e4]; omega
  | ⟨1, _⟩ =>
    show win0_5.index t 1 * win0_5.size 1 ≤ (i 1 : Nat) ∧ (i 1 : Nat) < win0_5.index t 1 * win0_5.size 1 + win0_5.xsize (grid0.coords t) 1
    rw [e1, e2]; exact h

theorem cover5 (i : S3072x7168.Idx) : ∃ t : Fin cfg0.N, (cfg0.win 5).flush t = true ∧ i ∈ ((cfg0.win 5).blk t).view.set := by
  have h0 : (i 1 : Nat) < 7168 := (i 1).isLt
  refine ⟨⟨(i 1 : Nat) / 256, by show _ < grid0.N; rw [N_0]; omega⟩, flush0_5 _, mem_blk5 _ i ?_⟩
  dsimp only
  omega

theorem place6 : ∀ t : Fin cfg0.N, win0_6.index t 1 * win0_6.size 1 = t.val * 256 ∧ win0_6.xsize (grid0.coords t) 1 = 256
    ∧ win0_6.index t 0 * win0_6.size 0 = 0 ∧ win0_6.xsize (grid0.coords t) 0 = 1 :=
  (by decide +kernel : ∀ t : Fin grid0.N, win0_6.index t 1 * win0_6.size 1 = t.val * 256 ∧ win0_6.xsize (grid0.coords t) 1 = 256
    ∧ win0_6.index t 0 * win0_6.size 0 = 0 ∧ win0_6.xsize (grid0.coords t) 0 = 1)

theorem mem_blk6 (t : Fin cfg0.N) (i : S1x7168.Idx) (h : t.val * 256 ≤ (i 1 : Nat) ∧ (i 1 : Nat) < t.val * 256 + 256) :
    i ∈ ((cfg0.win 6).blk t).view.set := by
  show i ∈ ((View.whole main_v3_2).slice (win0_6.rect t)).set
  rw [View.set_slice_whole, Rect.mem_set_unit]
  have ho : (i 0 : Nat) < 1 := (i 0).isLt
  obtain ⟨e1, e2, e3, e4⟩ := place6 t
  intro a
  match a with
  | ⟨0, _⟩ =>
    show win0_6.index t 0 * win0_6.size 0 ≤ (i 0 : Nat) ∧ (i 0 : Nat) < win0_6.index t 0 * win0_6.size 0 + win0_6.xsize (grid0.coords t) 0
    rw [e3, e4]; omega
  | ⟨1, _⟩ =>
    show win0_6.index t 1 * win0_6.size 1 ≤ (i 1 : Nat) ∧ (i 1 : Nat) < win0_6.index t 1 * win0_6.size 1 + win0_6.xsize (grid0.coords t) 1
    rw [e1, e2]; exact h

theorem cover6 (i : S1x7168.Idx) : ∃ t : Fin cfg0.N, (cfg0.win 6).flush t = true ∧ i ∈ ((cfg0.win 6).blk t).view.set := by
  have h0 : (i 1 : Nat) < 7168 := (i 1).isLt
  refine ⟨⟨(i 1 : Nat) / 256, by show _ < grid0.N; rw [N_0]; omega⟩, flush0_6 _, mem_blk6 _ i ?_⟩
  dsimp only
  omega

/-! ## The result arrays -/

theorem final4 (c : Dev nD) : (dats m 0 c).arrAt 4 cfg0.N = grad m c :=
  (dats m 0 c).arrAt_eq_of_cover 4 (grad m c) (fun t _ => flushed4_eq m c t) cover4

theorem final5 (c : Dev nD) : (dats m 0 c).arrAt 5 cfg0.N = codes m c :=
  (dats m 0 c).arrAt_eq_of_cover 5 (codes m c) (fun t _ => flushed5_eq m c t) cover5

theorem final6 (c : Dev nD) : (dats m 0 c).arrAt 6 cfg0.N = scales m c :=
  (dats m 0 c).arrAt_eq_of_cover 6 (scales m c) (fun t _ => flushed6_eq m c t) cover6

/-- The kernel's run: its three results are `Spec.grad`, `Spec.codes` and `Spec.scales` of the arguments, which stay. -/
theorem run : θ_run defs (onTc (τ := τ) (main (F := Ideal))) ⟨m, fun _ => 0, ρ⟩ fun r => ∀ c : Dev nD,
      r.2.mem ((c : Thread nD τ).loc main_v3_0) = grad m c
      ∧ r.2.mem ((c : Thread nD τ).loc main_v3_1) = codes m c
      ∧ r.2.mem ((c : Thread nD τ).loc main_v3_2) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => by
      obtain ⟨h4, h5, h6, hk⟩ := h c
      exact ⟨h4.trans (final4 m c), h5.trans (final5 m c), h6.trans (final6 m c), hk⟩)
    (Value.run_blocks m ρ)

end Cert.KernelIdeal.RefValue

end
-- ==== Proof.ReferenceBlock.lean ====
/- WHAT THE REFERENCE COMPUTES. Each payload of the reference's body is read at an index; together they are the
   functions of `Spec` at the whole arrays. -/
module

public import proofs.«01_k».proof.Proof.Spec
public import proofs.«01_k».proof.Proof.ColMax
public import proofs.«01_k».proof.Proof.Gen.ReferenceIdeal.Frame

@[expose] public section

set_option maxRecDepth 16384

noncomputable section

namespace Cert.ReferenceIdeal.Blk

open Cert.ReferenceIdeal Cert.ReferenceIdeal.Gen Idealize.ShloMosaic Idealize.ShloMosaic.TcCoe Idealize.SL.Sem

/-! ## The constants -/

/-- A constant of the body, by its pattern. -/
abbrev cst (b : BitVec 32) : Ideal .f32 := FloatOps.ofBits .f32 b

theorem c_min : cst 0x00800000#32 = Scale.P 1 := Scale.ofBits_exp (n := 1) (by omega)
theorem c_top : cst 0x7F800000#32 = (⊤ : EReal) := (Scale.ofBits_exp (n := 255) (by omega)).trans Scale.P_top
theorem c_zero : cst 0x00000000#32 = (0 : EReal) := by
  unfold cst; rw [Ideal.ofBits_def]; simp [Ideal.ofBits, Ideal.ieee]
theorem c_one : cst 0x3F800000#32 = (1 : EReal) := by
  unfold cst; rw [Ideal.ofBits_def]; simp [Ideal.ofBits, Ideal.ieee, -EReal.coe_mul]; norm_num
theorem c_two : cst 0x40000000#32 = ((2 : ℝ) : EReal) := by
  unfold cst; rw [Ideal.ofBits_def]; simp [Ideal.ofBits, Ideal.ieee, -EReal.coe_mul]; norm_num
theorem c_127 : cst 0x42FE0000#32 = ((127 : ℝ) : EReal) := by
  unfold cst; rw [Ideal.ofBits_def]; simp [Ideal.ofBits, Ideal.ieee, -EReal.coe_mul]; norm_num
theorem c_m126 : cst 0xC2FC0000#32 = ((-126 : ℝ) : EReal) := by
  unfold cst; rw [Ideal.ofBits_def]; simp [Ideal.ofBits, Ideal.ieee, -EReal.coe_mul]; norm_num
theorem c_bot : Ideal.ofBits .f32 0xFF800000#32 = ⊥ := by simp [Ideal.ofBits, Ideal.ieee]

/-! ## The scalar forms -/

/-- A selection by a decided condition. -/
theorem select_ofBool {α : Type} (p : Prop) [Decidable p] (a b : α) :
    Scalar.select (BitVec.ofBool (decide p)) a b = if p then a else b := by
  by_cases h : p <;> simp [h, Scalar.select]

/-- The comparisons, as decided conditions. -/
theorem oeq (a b : Ideal .f32) : FloatOps.cmpf .oeq a b = BitVec.ofBool (decide ((a : EReal) = b)) := rfl
theorem oge (a b : Ideal .f32) : FloatOps.cmpf .oge a b = BitVec.ofBool (decide ((b : EReal) ≤ a)) := rfl
theorem ogt (a b : Ideal .f32) : FloatOps.cmpf .ogt a b = BitVec.ofBool (decide ((b : EReal) < a)) := rfl
theorem olt (a b : Ideal .f32) : FloatOps.cmpf .olt a b = BitVec.ofBool (decide ((a : EReal) < b)) := rfl

/-- The exponent, as the body spells it, is `Scale.rExp`. -/
theorem exp_scalar (a v : Ideal .f32) :
    Scalar.select (FloatOps.cmpf .oeq a (cst 0x00000000#32)) (cst 0x00000000#32)
      (Scalar.select (IntOp.andi (FloatOps.cmpf .oge v (cst 0x00800000#32)) (FloatOps.cmpf .olt v (cst 0x7F800000#32)))
        (FloatOps.addf (FloatOps.floor (FloatOps.divf (FloatOps.log v) (FloatOps.log (cst 0x40000000#32)))) (cst 0x3F800000#32))
        (cst 0x00000000#32)) = Scale.rExp a v := by
  rw [c_zero, c_min, c_top, c_two, c_one, oeq, oge, olt]
  have hand : IntOp.andi (BitVec.ofBool (decide (Scale.P 1 ≤ (v : EReal)))) (BitVec.ofBool (decide ((v : EReal) < ⊤)))
      = BitVec.ofBool (decide (Scale.P 1 ≤ (v : EReal) ∧ (v : EReal) < ⊤)) := by
    show BitVec.ofBool (decide (Scale.P 1 ≤ (v : EReal))) &&& BitVec.ofBool (decide ((v : EReal) < ⊤)) = _
    by_cases h1 : Scale.P 1 ≤ (v : EReal) <;> by_cases h2 : (v : EReal) < ⊤ <;> simp [h1, h2]
  rw [hand, select_ofBool, select_ofBool]
  rfl

/-- The power of two, as the body spells it, is `Scale.ldexp`. -/
theorem ldexp_scalar (e : Ideal .f32) :
    Scalar.select (FloatOps.cmpf .ogt e (cst 0x42FE0000#32)) (cst 0x7F800000#32)
      (Scalar.select (FloatOps.cmpf .olt e (cst 0xC2FC0000#32)) (cst 0x00000000#32) (FloatOps.exp2 e))
      = Scale.ldexp e := by
  rw [c_127, c_top, c_m126, c_zero, ogt, olt, select_ofBool, select_ofBool]
  rfl

/-! ## The payloads -/

/-- The cast of `x` to its own shape changes nothing, and neither does the change of format. -/
theorem pay3_eq (x : Vec Ideal S3072x7168 .bf16) : k0_pay3 (F := Ideal) x = x := shapeCast_self _ _

section
variable (x : Vec Ideal S3072x7168 .bf16)

/-- The row of largest magnitudes. -/
theorem amax_apply (u : Fin 1) (j : Fin 7168) :
    shapeCast S1x7168 (multiReduction (F := Ideal) (φ := .f32) .maximumf [0] S7168 (absf (k0_pay3 x)) 0xFF800000#32
      reduces_S3072x7168_S7168 (.inl rfl) rfl) shapeCasts_S7168_S1x7168 (ix2 u j) = Spec.amax (Spec.col x j) := by
  have h := ColMax.colMax (φ := .f32) (absf (k0_pay3 x)) 0xFF800000#32 reduces_S3072x7168_S7168 (.inl rfl) rfl
    shapeCasts_S7168_S1x7168 u j
  rw [c_bot] at h
  refine h.trans ?_
  rw [pay3_eq]
  rfl

/-- The exponent of a column. -/
theorem pay4_apply (u : Fin 1) (j : Fin 7168) :
    k0_pay4 (F := Ideal) x (ix2 u j) = Scale.rExp (Spec.amax (Spec.col x j)) (Spec.quot (Spec.col x j)) := by
  have h := amax_apply x u j
  unfold k0_pay4
  simp only [ValueIdx.select_apply]
  -- nothing below depends on how the row of largest magnitudes was computed
  revert h
  generalize shapeCast S1x7168 (multiReduction (F := Ideal) (φ := .f32) .maximumf [0] S7168 (absf (k0_pay3 x)) 0xFF800000#32
      reduces_S3072x7168_S7168 (.inl rfl) rfl) shapeCasts_S7168_S1x7168 = a
  intro h
  unfold Spec.quot
  rw [← h]
  rw [ValueIdx.cmpf_apply, andi_apply, ValueIdx.cmpf_apply, ValueIdx.cmpf_apply, addf_apply, floor_apply, divf_apply,
    log_apply, log_apply, mulf_apply]
  exact exp_scalar (a (ix2 u j)) (FloatOps.mulf (F := Ideal) (φ := .f32) (a (ix2 u j)) (cst 0x3B124925#32))

/-- The scale of a column. -/
theorem pay5_apply (u : Fin 1) (j : Fin 7168) : k0_pay5 (F := Ideal) x (ix2 u j) = Spec.scale (Spec.col x j) := by
  unfold k0_pay5
  rw [ValueIdx.select_apply, ValueIdx.select_apply, ValueIdx.cmpf_apply, ValueIdx.cmpf_apply, exp2_apply, pay4_apply]
  exact ldexp_scalar (Scale.rExp (Spec.amax (Spec.col x j)) (Spec.quot (Spec.col x j)))

/-- The opposite exponent. -/
theorem pay6_apply (u : Fin 1) (j : Fin 7168) :
    k0_pay6 (F := Ideal) x (ix2 u j) = 0 - Scale.rExp (Spec.amax (Spec.col x j)) (Spec.quot (Spec.col x j)) := by
  unfold k0_pay6
  rw [subf_apply, pay4_apply, ValueIdx.broadcast_apply, Ideal.subf_def]
  exact congrArg (fun z : EReal => z - Scale.rExp (Spec.amax (Spec.col x j)) (Spec.quot (Spec.col x j))) c_zero

/-- The inverse scale as the codes' payload takes it: its two tests and its power of two apart. -/
theorem inv_apply (u : Fin 1) (j : Fin 7168) :
    Scalar.select (k0_pay7 (F := Ideal) x (ix2 u j)) (cst 0x7F800000#32)
      (Scalar.select (k0_pay8 (F := Ideal) x (ix2 u j)) (cst 0x00000000#32) (k0_pay9 (F := Ideal) x (ix2 u j)))
      = Spec.inv (Spec.col x j) := by
  unfold k0_pay7 k0_pay8 k0_pay9
  rw [ValueIdx.cmpf_apply, ValueIdx.cmpf_apply, exp2_apply, pay6_apply]
  exact ldexp_scalar (0 - Scale.rExp (Spec.amax (Spec.col x j)) (Spec.quot (Spec.col x j)))
end

section
variable (x0 : Vec Ideal S3072x7168 .bf16) (x1 : Vec Ideal S3072x3584 .fp8e5m2) (x2 : Vec Ideal S1x3584 .f32)
  (x3 : Vec Ideal S7168x3584 .f32)

theorem hz : (![0, 0] : Fin 2 → Nat) = fun _ => 0 := funext fun a => by fin_cases a <;> rfl

/-- A load of a whole buffer is the buffer. -/
theorem ld0 : View.ld x0 r0_0 = x0 := View.ld_unit_zero hz _ x0
theorem ld1 : View.ld x1 r0_1 = x1 := View.ld_unit_zero hz _ x1
theorem ld2 : View.ld x2 r0_3 = x2 := View.ld_unit_zero hz _ x2
theorem ld3 : View.ld x3 r0_2 = x3 := View.ld_unit_zero hz _ x3

/-- The codes' payload at an index. -/
theorem pay1_apply (v : FVec Ideal S3072x7168 .f32) (p q : IVec S1x7168 1) (e : FVec Ideal S1x7168 .f32) (r : Fin 3072) (j : Fin 7168) :
    k0_pay1 (F := Ideal) v p q e (ix2 r j)
      = min (Ideal.ofBits .f32 0x43E00000#32) (max (Ideal.ofBits .f32 0xC3E00000#32)
          (v (ix2 r j) * Scalar.select (p (ix2 0 j)) (cst 0x7F800000#32)
            (Scalar.select (q (ix2 0 j)) (cst 0x00000000#32) (e (ix2 0 j))))) := by
  have hb (w : FVec Ideal S1x7168 .f32) : broadcastTo S3072x7168 w broadcasts_S1x7168_S3072x7168 (ix2 r j) = w (ix2 0 j) := by
    pointwise
  unfold k0_pay1
  refine (?_ : _ = min (Ideal.ofBits .f32 0x43E00000#32) (max (Ideal.ofBits .f32 0xC3E00000#32) (v (ix2 r j)
    * broadcastTo S3072x7168 (select p (broadcast S1x7168 (cst 0x7F800000#32))
        (select q (broadcast S1x7168 (cst 0x00000000#32)) e)) broadcasts_S1x7168_S3072x7168 (ix2 r j)))).trans ?_
  · rfl
  · rw [hb]
    rfl

/-- The codes. -/
theorem codes_apply (r : Fin 3072) (j : Fin 7168) :
    k0_pay1 (F := Ideal) (k0_pay10 x0 x1 x2 x3) (k0_pay12 x0 x1 x2 x3) (k0_pay13 x0 x1 x2 x3) (k0_pay14 x0 x1 x2 x3) (ix2 r j)
      = Spec.codes x0 (ix2 r j) := by
  unfold k0_pay10 k0_pay12 k0_pay13 k0_pay14
  rw [ld0, pay1_apply, inv_apply, pay3_eq]
  rfl

/-- The updated gradient's payload at an index. -/
theorem pay2_apply (v : FVec Ideal S3072x7168 .f32) (s : FVec Ideal S1x7168 .f32) (p q : IVec S1x7168 1) (e : FVec Ideal S1x7168 .f32)
    (r : Fin 7168) (j : Fin 3584) :
    k0_pay2 (F := Ideal) v s p q e x1 x3 x2 (ix2 r j)
      = x3 (ix2 r j) + (∑ k, k0_pay1 (F := Ideal) v p q e (ix2 k r) * x1 (ix2 k j)) * (s (ix2 0 r) * x2 (ix2 0 j)) := by
  pointwise [k0_pay2]

/-! ## The three arrays the body stores -/

theorem out4_eq : out0_4 x0 x1 x2 x3 = Spec.grad x0 x1 x2 x3 := by
  unfold out0_4 r0_2
  rw [View.canon_unit_zero hz, ld1, ld2]
  have e : View.ld x3 r0_2 = x3 := ld3 x3
  unfold r0_2 at e
  rw [e]
  funext i
  idx_vars i
  rw [pay2_apply]
  simp only [codes_apply]
  unfold k0_pay11
  rw [ld0, pay5_apply]
  rfl

theorem out5_eq : out0_5 x0 x1 x2 x3 = Spec.codes x0 := by
  unfold out0_5 r0_0
  rw [View.canon_unit_zero hz]
  funext i
  idx_vars i
  exact codes_apply x0 x1 x2 x3 _ _

theorem out6_eq : out0_6 x0 x1 x2 x3 = Spec.scales x0 := by
  unfold out0_6 r0_4
  rw [View.canon_unit_zero hz]
  funext i
  idx_vars i
  unfold k0_pay11
  rw [ld0]
  exact pay5_apply x0 _ _
end

end Cert.ReferenceIdeal.Blk

end
-- ==== Proof.ReferenceRun.lean ====
/- The reference's three result arrays: it has one grid point, whose blocks are the whole arrays, and what it writes back
   is `Spec.grad`, `Spec.codes` and `Spec.scales` of them. -/
module

public import proofs.«01_k».proof.Proof.ReferenceBlock
public import Idealize.ShloMosaic.Lib.Pipeline.Value
public import Idealize.ShloMosaic.Lib.Pipeline.ValueKit
public import Idealize.ShloMosaic.Lib.Claim

@[expose] public section

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The arguments as matrices -/

/-- `x`, one token a row. -/
def argX (c : Dev nD) : Spec.Mat 3072 7168 :=
  shapeCast S3072x7168 (m ((c : Thread nD τ).loc main_arg0)) shapeCasts_S1x3072x7168_S3072x7168
/-- The codes of `dy`, one token a row. -/
def argDY (c : Dev nD) : Spec.Mat 3072 3584 :=
  shapeCast S3072x3584 (m ((c : Thread nD τ).loc main_arg1)) shapeCasts_S1x3072x3584_S3072x3584
/-- The scales of `dy`, as a row. -/
def argDS (c : Dev nD) : Spec.Mat 1 3584 :=
  shapeCast S1x3584 (m ((c : Thread nD τ).loc main_arg2)) shapeCasts_S3584_S1x3584
/-- The gradient before. -/
def argMG (c : Dev nD) : Spec.Mat 7168 3584 := m ((c : Thread nD τ).loc main_arg3)

theorem V_x (c : Dev nD) : V m c main_v0 = argX m c := by entry_read; rfl
theorem V_dy (c : Dev nD) : V m c main_v1 = argDY m c := by entry_read; rfl
theorem V_ds (c : Dev nD) : V m c main_v2 = argDS m c := by entry_read; rfl
theorem V_mg (c : Dev nD) : V m c main_arg3 = argMG m c := V_main_arg3 m c

/-! ## The one point's blocks -/

/-- Every window's block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0])

theorem iblk0 (c : Dev nD) (t : Fin cfg0.N) : iblk m c 0 t = argX m c := by
  rw [← V_x]
  funext i
  blk_ext [iblk, idx t]

theorem iblk1 (c : Dev nD) (t : Fin cfg0.N) : iblk m c 1 t = argDY m c := by
  rw [← V_dy]
  funext i
  blk_ext [iblk, idx t]

theorem iblk2 (c : Dev nD) (t : Fin cfg0.N) : iblk m c 2 t = argDS m c := by
  rw [← V_ds]
  funext i
  blk_ext [iblk, idx t]

theorem iblk3 (c : Dev nD) (t : Fin cfg0.N) : iblk m c 3 t = argMG m c := by
  rw [← V_mg]
  funext i
  blk_ext [iblk, idx t]

/-! ## What is written back -/

/-- The updated gradient of the whole arrays. -/
def grad (c : Dev nD) : Spec.Mat 7168 3584 := Spec.grad (argX m c) (argDY m c) (argDS m c) (argMG m c)
/-- The codes of the whole array. -/
def codes (c : Dev nD) : Spec.Mat 3072 7168 := Spec.codes (argX m c)
/-- The scales of the whole array. -/
def scales (c : Dev nD) : Spec.Mat 1 7168 := Spec.scales (argX m c)

theorem flushed4_eq (c : Dev nD) (t : Fin cfg0.N) :
    (dats m 0 c).flushed 4 t = (win0_4.blk t).view.read (Elt Ideal) (grad m c) := by
  show (cfg0.win 4).cut (grid0.coords t) ((dats m 0 c).after 4 t) = _
  rw [after0_4, Blk.out4_eq, iblk0, iblk1, iblk2, iblk3]
  funext i
  show grad m c _ = _
  blk_ext [idx t]

theorem flushed5_eq (c : Dev nD) (t : Fin cfg0.N) :
    (dats m 0 c).flushed 5 t = (win0_5.blk t).view.read (Elt Ideal) (codes m c) := by
  show (cfg0.win 5).cut (grid0.coords t) ((dats m 0 c).after 5 t) = _
  rw [after0_5, Blk.out5_eq, iblk0]
  funext i
  show codes m c _ = _
  blk_ext [idx t]

theorem flushed6_eq (c : Dev nD) (t : Fin cfg0.N) :
    (dats m 0 c).flushed 6 t = (win0_6.blk t).view.read (Elt Ideal) (scales m c) := by
  show (cfg0.win 6).cut (grid0.coords t) ((dats m 0 c).after 6 t) = _
  rw [after0_6, Blk.out6_eq, iblk0]
  funext i
  show scales m c _ = _
  blk_ext [idx t]

/-! ## The block covers each array -/

theorem place4 : ∀ t : Fin cfg0.N, win0_4.index t 0 * win0_4.size 0 = 0 ∧ win0_4.xsize (grid0.coords t) 0 = 7168
    ∧ win0_4.index t 1 * win0_4.size 1 = 0 ∧ win0_4.xsize (grid0.coords t) 1 = 3584 :=
  (by decide +kernel : ∀ t : Fin grid0.N, win0_4.index t 0 * win0_4.size 0 = 0 ∧ win0_4.xsize (grid0.coords t) 0 = 7168
    ∧ win0_4.index t 1 * win0_4.size 1 = 0 ∧ win0_4.xsize (grid0.coords t) 1 = 3584)

theorem cover4 (i : S7168x3584.Idx) : ∃ t : Fin cfg0.N, (cfg0.win 4).flush t = true ∧ i ∈ ((cfg0.win 4).blk t).view.set := by
  refine ⟨t0_0, flush0_4 _, ?_⟩
  generalize t0_0 = t
  show i ∈ ((View.whole main_v3_0).slice (win0_4.rect t)).set
  rw [View.set_slice_whole, Rect.mem_set_unit]
  have h0 : (i 0 : Nat) < 7168 := (i 0).isLt
  have h1 : (i 1 : Nat) < 3584 := (i 1).isLt
  obtain ⟨e1, e2, e3, e4⟩ := place4 t
  intro a
  match a with
  | ⟨0, _⟩ =>
    show win0_4.index t 0 * win0_4.size 0 ≤ (i 0 : Nat) ∧ (i 0 : Nat) < win0_4.index t 0 * win0_4.size 0 + win0_4.xsize (grid0.coords t) 0
    rw [e1, e2]; omega
  | ⟨1, _⟩ =>
    show win0_4.index t 1 * win0_4.size 1 ≤ (i 1 : Nat) ∧ (i 1 : Nat) < win0_4.index t 1 * win0_4.size 1 + win0_4.xsize (grid0.coords t) 1
    rw [e3, e4]; omega

theorem place5 : ∀ t : Fin cfg0.N, win0_5.index t 0 * win0_5.size 0 = 0 ∧ win0_5.xsize (grid0.coords t) 0 = 3072
    ∧ win0_5.index t 1 * win0_5.size 1 = 0 ∧ win0_5.xsize (grid0.coords t) 1 = 7168 :=
  (by decide +kernel : ∀ t : Fin grid0.N, win0_5.index t 0 * win0_5.size 0 = 0 ∧ win0_5.xsize (grid0.coords t) 0 = 3072
    ∧ win0_5.index t 1 * win0_5.size 1 = 0 ∧ win0_5.xsize (grid0.coords t) 1 = 7168)

theorem cover5 (i : S3072x7168.Idx) : ∃ t : Fin cfg0.N, (cfg0.win 5).flush t = true ∧ i ∈ ((cfg0.win 5).blk t).view.set := by
  refine ⟨t0_0, flush0_5 _, ?_⟩
  generalize t0_0 = t
  show i ∈ ((View.whole main_v3_1).slice (win0_5.rect t)).set
  rw [View.set_slice_whole, Rect.mem_set_unit]
  have h0 : (i 0 : Nat) < 3072 := (i 0).isLt
  have h1 : (i 1 : Nat) < 7168 := (i 1).isLt
  obtain ⟨e1, e2, e3, e4⟩ := place5 t
  intro a
  match a with
  | ⟨0, _⟩ =>
    show win0_5.index t 0 * win0_5.size 0 ≤ (i 0 : Nat) ∧ (i 0 : Nat) < win0_5.index t 0 * win0_5.size 0 + win0_5.xsize (grid0.coords t) 0
    rw [e1, e2]; omega
  | ⟨1, _⟩ =>
    show win0_5.index t 1 * win0_5.size 1 ≤ (i 1 : Nat) ∧ (i 1 : Nat) < win0_5.index t 1 * win0_5.size 1 + win0_5.xsize (grid0.coords t) 1
    rw [e3, e4]; omega

theorem place6 : ∀ t : Fin cfg0.N, win0_6.index t 0 * win0_6.size 0 = 0 ∧ win0_6.xsize (grid0.coords t) 0 = 1
    ∧ win0_6.index t 1 * win0_6.size 1 = 0 ∧ win0_6.xsize (grid0.coords t) 1 = 7168 :=
  (by decide +kernel : ∀ t : Fin grid0.N, win0_6.index t 0 * win0_6.size 0 = 0 ∧ win0_6.xsize (grid0.coords t) 0 = 1
    ∧ win0_6.index t 1 * win0_6.size 1 = 0 ∧ win0_6.xsize (grid0.coords t) 1 = 7168)

theorem cover6 (i : S1x7168.Idx) : ∃ t : Fin cfg0.N, (cfg0.win 6).flush t = true ∧ i ∈ ((cfg0.win 6).blk t).view.set := by
  refine ⟨t0_0, flush0_6 _, ?_⟩
  generalize t0_0 = t
  show i ∈ ((View.whole main_v3_2).slice (win0_6.rect t)).set
  rw [View.set_slice_whole, Rect.mem_set_unit]
  have h0 : (i 0 : Nat) < 1 := (i 0).isLt
  have h1 : (i 1 : Nat) < 7168 := (i 1).isLt
  obtain ⟨e1, e2, e3, e4⟩ := place6 t
  intro a
  match a with
  | ⟨0, _⟩ =>
    show win0_6.index t 0 * win0_6.size 0 ≤ (i 0 : Nat) ∧ (i 0 : Nat) < win0_6.index t 0 * win0_6.size 0 + win0_6.xsize (grid0.coords t) 0
    rw [e1, e2]; omega
  | ⟨1, _⟩ =>
    show win0_6.index t 1 * win0_6.size 1 ≤ (i 1 : Nat) ∧ (i 1 : Nat) < win0_6.index t 1 * win0_6.size 1 + win0_6.xsize (grid0.coords t) 1
    rw [e3, e4]; omega

/-! ## The result arrays -/

theorem final4 (c : Dev nD) : (dats m 0 c).arrAt 4 cfg0.N = grad m c :=
  (dats m 0 c).arrAt_eq_of_cover 4 (grad m c) (fun t _ => flushed4_eq m c t) cover4

theorem final5 (c : Dev nD) : (dats m 0 c).arrAt 5 cfg0.N = codes m c :=
  (dats m 0 c).arrAt_eq_of_cover 5 (codes m c) (fun t _ => flushed5_eq m c t) cover5

theorem final6 (c : Dev nD) : (dats m 0 c).arrAt 6 cfg0.N = scales m c :=
  (dats m 0 c).arrAt_eq_of_cover 6 (scales m c) (fun t _ => flushed6_eq m c t) cover6

/-- The reference's run: its three results are `Spec.grad`, `Spec.codes` and `Spec.scales` of the arguments, which stay. -/
theorem run : θ_run defs (onTc (τ := τ) (main (F := Ideal))) ⟨m, fun _ => 0, ρ⟩ fun r => ∀ c : Dev nD,
      r.2.mem ((c : Thread nD τ).loc main_v3_0) = grad m c
      ∧ r.2.mem ((c : Thread nD τ).loc main_v3_1) = codes m c
      ∧ r.2.mem ((c : Thread nD τ).loc main_v3_2) = scales m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final4 m c), ((h c).1 5).trans (final5 m c),
      ((h c).1 6).trans (final6 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c)))⟩)
    (run_main m ρ)

end Cert.ReferenceIdeal.RefValue

end
-- ==== Proof.lean ====
module

public import proofs.«01_k».proof.Defs
public import proofs.«01_k».proof.Proof.Gen.Kernel
public import proofs.«01_k».proof.Proof.Gen.Kernel.Frame
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The kernel terminates, leaves its arguments and ends with every counter at zero, -/
theorem frame_kernel : Cert.quiescent_Kernel := fun m ρ _ => Cert.Kernel.Gen.frame m ρ
/-- also over the extended reals, -/
theorem frame_kernelIdeal : Cert.quiescent_KernelIdeal := fun m ρ _ => Cert.KernelIdeal.Gen.frame m ρ
/-- and so does the reference. -/
theorem frame_referenceIdeal : Cert.quiescent_ReferenceIdeal := fun m ρ _ => Cert.ReferenceIdeal.Gen.frame m ρ

/-- Over the extended reals the kernel's three results are the reference's, whatever the arguments. -/
theorem algebraic : Cert.algebraic_KernelIdeal_ReferenceIdeal := by
  intro m g m' g' _ hagree
  refine ⟨fun c => Cert.KernelIdeal.RefValue.grad m c, fun c => Cert.KernelIdeal.RefValue.codes m c,
    fun c => Cert.KernelIdeal.RefValue.scales m c, Cert.KernelIdeal.RefValue.run m g, ?_⟩
  have hX (c) : Cert.ReferenceIdeal.RefValue.argX m' c = Cert.KernelIdeal.RefValue.argX m c := by
    unfold Cert.ReferenceIdeal.RefValue.argX Cert.KernelIdeal.RefValue.argX
    rw [(hagree c).1]
  have hDY (c) : Cert.ReferenceIdeal.RefValue.argDY m' c = Cert.KernelIdeal.RefValue.argDY m c := by
    unfold Cert.ReferenceIdeal.RefValue.argDY Cert.KernelIdeal.RefValue.argDY
    rw [(hagree c).2.1]
  have hDS (c) : Cert.ReferenceIdeal.RefValue.argDS m' c = Cert.KernelIdeal.RefValue.argDS m c := by
    unfold Cert.ReferenceIdeal.RefValue.argDS Cert.KernelIdeal.RefValue.argDS
    rw [(hagree c).2.2.1]
  have hMG (c) : Cert.ReferenceIdeal.RefValue.argMG m' c = Cert.KernelIdeal.RefValue.argMG m c := (hagree c).2.2.2
  have h4 (c) : Cert.ReferenceIdeal.RefValue.grad m' c = Cert.KernelIdeal.RefValue.grad m c := by
    unfold Cert.ReferenceIdeal.RefValue.grad Cert.KernelIdeal.RefValue.grad
    rw [hX, hDY, hDS, hMG]
  have h5 (c) : Cert.ReferenceIdeal.RefValue.codes m' c = Cert.KernelIdeal.RefValue.codes m c := by
    unfold Cert.ReferenceIdeal.RefValue.codes Cert.KernelIdeal.RefValue.codes
    rw [hX]
  have h6 (c) : Cert.ReferenceIdeal.RefValue.scales m' c = Cert.KernelIdeal.RefValue.scales m c := by
    unfold Cert.ReferenceIdeal.RefValue.scales Cert.KernelIdeal.RefValue.scales
    rw [hX]
  exact (θ_run Cert.ReferenceIdeal.defs _ _).mono
    (fun _ h c => ⟨(h c).1.trans (h4 c), (h c).2.1.trans (h5 c), (h c).2.2.1.trans (h6 c), (h c).2.2.2⟩)
    (Cert.ReferenceIdeal.RefValue.run m' g')

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
